-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_token_index_counts [hPre_token_index_counts : Cert.Pre_token_index_counts.Facts] (m : (ℓ : Loc Cert.KernelIdeal.nD Cert.KernelIdeal.τ Cert.KernelIdeal.sig) → Buf (Elt Ideal) ℓ) : Prop :=
  ∀ c : Dev Cert.KernelIdeal.nD,
    (Cert.Pre_token_index_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_token_index_counts [hPre_token_index_counts : Cert.Pre_token_index_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_token_index_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_token_index_counts [hKernelIdeal : Cert.KernelIdeal.Facts] [hPre_token_index_counts : Cert.Pre_token_index_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_token_index_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_token_index_counts [hReferenceIdeal : Cert.ReferenceIdeal.Facts] [hPre_token_index_counts : Cert.Pre_token_index_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_token_index_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_token_index_counts [hKernelIdeal : Cert.KernelIdeal.Facts] [hReferenceIdeal : Cert.ReferenceIdeal.Facts] [hPre_token_index_counts : Cert.Pre_token_index_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_token_index_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_token_index_counts : Cert.Pre_token_index_counts.Facts),
    quiescent_Kernel (hKernel := hKernel)
    ∧ quiescent_KernelIdeal (hKernelIdeal := hKernelIdeal)
    ∧ quiescent_KernelIdeal_pre_token_index_counts (hKernelIdeal := hKernelIdeal) (hPre_token_index_counts := hPre_token_index_counts)
    ∧ quiescent_ReferenceIdeal (hReferenceIdeal := hReferenceIdeal)
    ∧ quiescent_ReferenceIdeal_pre_token_index_counts (hReferenceIdeal := hReferenceIdeal) (hPre_token_index_counts := hPre_token_index_counts)
    ∧ preserves_Kernel_KernelIdeal
    ∧ algebraic_KernelIdeal_ReferenceIdeal_pre_token_index_counts (hKernelIdeal := hKernelIdeal) (hReferenceIdeal := hReferenceIdeal) (hPre_token_index_counts := hPre_token_index_counts)
-- ==== Pre_token_index_counts.lean ====
abbrev S768 : Shape := ⟨1, ![768]⟩
abbrev S128x139 : Shape := ⟨2, ![128, 139]⟩

class Facts : Prop where

variable [Facts]

def fn {F : FTy → Type} [FloatOps F] (main_arg0 : IVec S768 32) (main_arg1 : IVec S768 32) (main_arg2 : IVec S768 32) (main_arg3 : IVec S768 32) (main_arg4 : IVec S768 32) (main_arg5 : FVec F S128x139 .f32) : IVec S768 1 :=
  let main_v0 : IVec S768 32 := iotaInDim S768 32 0
  let main_v1 : IVec S768 1 := cmpi .eq main_arg3 main_v0
  main_v1
-- ==== Kernel.lean ====
abbrev S768 : Shape := ⟨1, ![768]⟩
abbrev S128x139 : Shape := ⟨2, ![128, 139]⟩
abbrev S128x66 : Shape := ⟨2, ![128, 66]⟩
abbrev S66x128 : Shape := ⟨2, ![66, 128]⟩
abbrev S128x1 : Shape := ⟨2, ![128, 1]⟩
abbrev S128 : Shape := ⟨1, ![128]⟩
abbrev S128x6 : Shape := ⟨2, ![128, 6]⟩
abbrev S6x128 : Shape := ⟨2, ![6, 128]⟩
abbrev S6 : Shape := ⟨1, ![6]⟩
abbrev S_ : Shape := ⟨0, ![]⟩
abbrev S6x1 : Shape := ⟨2, ![6, 1]⟩
abbrev S1x128 : Shape := ⟨2, ![1, 128]⟩
abbrev S144x128 : Shape := ⟨2, ![144, 128]⟩
abbrev S1x768 : Shape := ⟨2, ![1, 768]⟩
abbrev S768x768x128 : Shape := ⟨3, ![768, 768, 128]⟩
abbrev S48x768x128 : Shape := ⟨3, ![48, 768, 128]⟩
abbrev S8x768 : Shape := ⟨2, ![8, 768]⟩
abbrev S1 : Shape := ⟨1, ![1]⟩
abbrev S144x768 : Shape := ⟨2, ![144, 768]⟩
abbrev S768x128 : Shape := ⟨2, ![768, 128]⟩
abbrev S1x768x128 : Shape := ⟨3, ![1, 768, 128]⟩

abbrev nBuf : Space → Nat
  | .hbm => 36
  | .vmem => 7
  | .smem => 4
  | _ => 0

abbrev bufTy : (tb : Table) → Fin (tcTables nBuf tb) → BufTy
  | .hbm, ⟨0, _⟩ => ⟨S768, .i32⟩
  | .hbm, ⟨1, _⟩ => ⟨S768, .i32⟩
  | .hbm, ⟨2, _⟩ => ⟨S768, .i32⟩
  | .hbm, ⟨3, _⟩ => ⟨S768, .i32⟩
  | .hbm, ⟨4, _⟩ => ⟨S768, .i32⟩
  | .hbm, ⟨5, _⟩ => ⟨S128x139, .f32⟩
  | .hbm, ⟨6, _⟩ => ⟨S128x66, .f32⟩
  | .hbm, ⟨7, _⟩ => ⟨S66x128, .f32⟩
  | .hbm, ⟨8, _⟩ => ⟨S128x66, .f32⟩
  | .hbm, ⟨9, _⟩ => ⟨S66x128, .f32⟩
  | .hbm, ⟨10, _⟩ => ⟨S128x1, .f32⟩
  | .hbm, ⟨11, _⟩ => ⟨S128, .f32⟩
  | .hbm, ⟨12, _⟩ => ⟨S128x6, .f32⟩
  | .hbm, ⟨13, _⟩ => ⟨S6x128, .f32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i1⟩
  | .hbm, ⟨18, _⟩ => ⟨S6x1, .i1⟩
  | .hbm, ⟨19, _⟩ => ⟨S1x128, .f32⟩
  | .hbm, ⟨20, _⟩ => ⟨S_, .f32⟩
  | .hbm, ⟨21, _⟩ => ⟨S_, .f32⟩
  | .hbm, ⟨22, _⟩ => ⟨S6x128, .i1⟩
  | .hbm, ⟨23, _⟩ => ⟨S6x128, .f32⟩
  | .hbm, ⟨24, _⟩ => ⟨S6x128, .f32⟩
  | .hbm, ⟨25, _⟩ => ⟨S6x128, .f32⟩
  | .hbm, ⟨26, _⟩ => ⟨S6x128, .f32⟩
  | .hbm, ⟨27, _⟩ => ⟨S_, .f32⟩
  | .hbm, ⟨28, _⟩ => ⟨S6x128, .f32⟩
  | .hbm, ⟨29, _⟩ => ⟨S144x128, .f32⟩
  | .hbm, ⟨30, _⟩ => ⟨S144x128, .bf16⟩
  | .hbm, ⟨31, _⟩ => ⟨S1x768, .i32⟩
  | .hbm, ⟨32, _⟩ => ⟨S1x768, .i32⟩
  | .hbm, ⟨33, _⟩ => ⟨S1x768, .i32⟩
  | .hbm, ⟨34, _⟩ => ⟨S1x768, .i32⟩
  | .hbm, ⟨35, _⟩ => ⟨S768x768x128, .f32⟩
  | .local _ .vmem, ⟨0, _⟩ => ⟨S1x768, .i32⟩
  | .local _ .vmem, ⟨1, _⟩ => ⟨S1x768, .i32⟩
  | .local _ .vmem, ⟨2, _⟩ => ⟨S1x768, .i32⟩
  | .local _ .vmem, ⟨3, _⟩ => ⟨S1x768, .i32⟩
  | .local _ .vmem, ⟨4, _⟩ => ⟨S144x128, .bf16⟩
  | .local _ .vmem, ⟨5, _⟩ => ⟨S48x768x128, .f32⟩
  | .local _ .vmem, ⟨6, _⟩ => ⟨S48x768x128, .f32⟩
  | .local _ .smem, ⟨0, _⟩ => ⟨S768, .i32⟩
  | .local _ .smem, ⟨1, _⟩ => ⟨S768, .i32⟩
  | .local _ .smem, ⟨2, _⟩ => ⟨S768, .i32⟩
  | .local _ .smem, ⟨3, _⟩ => ⟨S768, .i32⟩
  | _, _ => ⟨S768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg9_1 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 1 → Nat :=
  let arg0 : BitVec 32 := BitVec.ofNat 32 (i 0).val
  let c48_i32 : BitVec 32 := 48#32
  let v12 : BitVec 32 := Scalar.muli arg0 c48_i32
  let v13 : BitVec 32 := Scalar.addi v12 c0_i32
  let v14 : Index := Scalar.indexCast v13
  ![v14.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S144x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S48x768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S768 : Shape := ⟨1, ![768]⟩
abbrev S128x139 : Shape := ⟨2, ![128, 139]⟩
abbrev S128x66 : Shape := ⟨2, ![128, 66]⟩
abbrev S66x128 : Shape := ⟨2, ![66, 128]⟩
abbrev S128x1 : Shape := ⟨2, ![128, 1]⟩
abbrev S128 : Shape := ⟨1, ![128]⟩
abbrev S128x6 : Shape := ⟨2, ![128, 6]⟩
abbrev S6x128 : Shape := ⟨2, ![6, 128]⟩
abbrev S768x1 : Shape := ⟨2, ![768, 1]⟩
abbrev S1x768 : Shape := ⟨2, ![1, 768]⟩
abbrev S768x768 : Shape := ⟨2, ![768, 768]⟩
abbrev S_ : Shape := ⟨0, ![]⟩
abbrev S768x768x1 : Shape := ⟨3, ![768, 768, 1]⟩
abbrev S1 : Shape := ⟨1, ![1]⟩
abbrev S1x1x1 : Shape := ⟨3, ![1, 1, 1]⟩
abbrev S768x768x128 : Shape := ⟨3, ![768, 768, 128]⟩
abbrev S1x1x128 : Shape := ⟨3, ![1, 1, 128]⟩

abbrev nBuf : Space → Nat
  | .hbm => 170
  | .vmem => 0
  | .smem => 0
  | _ => 0

abbrev hbmTy0_0 (i : Nat) : BufTy := match i % 128 with
  | 0 => ⟨S768, .i32⟩
  | 1 => ⟨S768, .i32⟩
  | 2 => ⟨S768, .i32⟩
  | 3 => ⟨S768, .i32⟩
  | 4 => ⟨S768, .i32⟩
  | 5 => ⟨S128x139, .f32⟩
  | 6 => ⟨S128x66, .f32⟩
  | 7 => ⟨S66x128, .f32⟩
  | 8 => ⟨S128x66, .f32⟩
  | 9 => ⟨S66x128, .f32⟩
  | 10 => ⟨S128x1, .f32⟩
  | 11 => ⟨S128, .f32⟩
  | 12 => ⟨S128x6, .f32⟩
  | 13 => ⟨S6x128, .f32⟩
  | 14 => ⟨S768x1, .i32⟩
  | 15 => ⟨S1x768, .i32⟩
  | 16 => ⟨S768x768, .i32⟩
  | 17 => ⟨S768x768, .i32⟩
  | 18 => ⟨S768x768, .i1⟩
  | 19 => ⟨S768x1, .i32⟩
  | 20 => ⟨S1x768, .i32⟩
  | 21 => ⟨S768x768, .i32⟩
  | 22 => ⟨S768x768, .i32⟩
  | 23 => ⟨S768x768, .i1⟩
  | 24 => ⟨S768x1, .i32⟩
  | 25 => ⟨S1x768, .i32⟩
  | 26 => ⟨S768x768, .i32⟩
  | 27 => ⟨S768x768, .i32⟩
  | 28 => ⟨S768x768, .i1⟩
  | 29 => ⟨S768x1, .i32⟩
  | 30 => ⟨S1x768, .i32⟩
  | 31 => ⟨S768x768, .i32⟩
  | 32 => ⟨S768x768, .i32⟩
  | 33 => ⟨S768x768, .i32⟩
  | 34 => ⟨S_, .i32⟩
  | 35 => ⟨S768x768, .i32⟩
  | 36 => ⟨S768x768, .i32⟩
  | 37 => ⟨S_, .i32⟩
  | 38 => ⟨S_, .i32⟩
  | 39 => ⟨S_, .i32⟩
  | 40 => ⟨S768x768, .i32⟩
  | 41 => ⟨S768x768, .i32⟩
  | 42 => ⟨S_, .i32⟩
  | 43 => ⟨S768x768, .i32⟩
  | 44 => ⟨S768x768, .i32⟩
  | 45 => ⟨S_, .i32⟩
  | 46 => ⟨S_, .i32⟩
  | 47 => ⟨S768x768, .i32⟩
  | 48 => ⟨S768x768, .i32⟩
  | 49 => ⟨S768x1, .i32⟩
  | 50 => ⟨S1x768, .i32⟩
  | 51 => ⟨S768x768, .i32⟩
  | 52 => ⟨S768x768, .i32⟩
  | 53 => ⟨S768x768, .i32⟩
  | 54 => ⟨S_, .i32⟩
  | 55 => ⟨S768x768, .i32⟩
  | 56 => ⟨S768x768, .i32⟩
  | 57 => ⟨S_, .i32⟩
  | 58 => ⟨S_, .i32⟩
  | 59 => ⟨S_, .i32⟩
  | 60 => ⟨S768x768, .i32⟩
  | 61 => ⟨S768x768, .i32⟩
  | 62 => ⟨S_, .i32⟩
  | 63 => ⟨S768x768, .i32⟩
  | 64 => ⟨S768x768, .i32⟩
  | 65 => ⟨S768x768, .i1⟩
  | 66 => ⟨S_, .i32⟩
  | 67 => ⟨S_, .i32⟩
  | 68 => ⟨S768x768, .i32⟩
  | 69 => ⟨S768x768, .i32⟩
  | 70 => ⟨S768x1, .i32⟩
  | 71 => ⟨S1x768, .i32⟩
  | 72 => ⟨S768x768, .i32⟩
  | 73 => ⟨S768x768, .i32⟩
  | 74 => ⟨S768x768, .i32⟩
  | 75 => ⟨S_, .i32⟩
  | 76 => ⟨S768x768, .i32⟩
  | 77 => ⟨S768x768, .i32⟩
  | 78 => ⟨S_, .i32⟩
  | 79 => ⟨S_, .i32⟩
  | 80 => ⟨S_, .i32⟩
  | 81 => ⟨S768x768, .i32⟩
  | 82 => ⟨S768x768, .i32⟩
  | 83 => ⟨S_, .i32⟩
  | 84 => ⟨S768x768, .i32⟩
  | 85 => ⟨S768x768, .i32⟩
  | 86 => ⟨S_, .i32⟩
  | 87 => ⟨S_, .i32⟩
  | 88 => ⟨S768x768, .i32⟩
  | 89 => ⟨S768x768, .i32⟩
  | 90 => ⟨S_, .i32⟩
  | 91 => ⟨S768x768, .i32⟩
  | 92 => ⟨S768x768, .i1⟩
  | 93 => ⟨S_, .i32⟩
  | 94 => ⟨S768x768, .i32⟩
  | 95 => ⟨S768x768, .i32⟩
  | 96 => ⟨S768x768, .i32⟩
  | 97 => ⟨S768x768x1, .i32⟩
  | 98 => ⟨S1, .i32⟩
  | 99 => ⟨S_, .i32⟩
  | 100 => ⟨S768x768x1, .i32⟩
  | 101 => ⟨S768x768x1, .i1⟩
  | 102 => ⟨S1x1x1, .i32⟩
  | 103 => ⟨S768x768x1, .i32⟩
  | 104 => ⟨S768x768x1, .i1⟩
  | 105 => ⟨S768x768x1, .i1⟩
  | 106 => ⟨S_, .i1⟩
  | 107 => ⟨S768x768, .i1⟩
  | 108 => ⟨S768x768x128, .f32⟩
  | 109 => ⟨S768x768x128, .i1⟩
  | 110 => ⟨S_, .f32⟩
  | 111 => ⟨S768x768x128, .f32⟩
  | 112 => ⟨S768x768x128, .f32⟩
  | 113 => ⟨S_, .i32⟩
  | 114 => ⟨S768x768, .i32⟩
  | 115 => ⟨S768x768, .i1⟩
  | 116 => ⟨S_, .i32⟩
  | 117 => ⟨S768x768, .i32⟩
  | 118 => ⟨S768x768, .i32⟩
  | 119 => ⟨S768x768, .i32⟩
  | 120 => ⟨S768x768x1, .i32⟩
  | 121 => ⟨S1, .i32⟩
  | 122 => ⟨S_, .i32⟩
  | 123 => ⟨S768x768x1, .i32⟩
  | 124 => ⟨S768x768x1, .i1⟩
  | 125 => ⟨S1x1x1, .i32⟩
  | 126 => ⟨S768x768x1, .i32⟩
  | 127 => ⟨S768x768x1, .i1⟩
  | _ => ⟨S768, .i32⟩

abbrev hbmTy0_1 (i : Nat) : BufTy := match i % 128 with
  | 0 => ⟨S768x768x1, .i1⟩
  | 1 => ⟨S_, .i1⟩
  | 2 => ⟨S768x768, .i1⟩
  | 3 => ⟨S768x768x128, .f32⟩
  | 4 => ⟨S768x768x128, .i1⟩
  | 5 => ⟨S_, .f32⟩
  | 6 => ⟨S768x768x128, .f32⟩
  | 7 => ⟨S768x768x128, .f32⟩
  | 8 => ⟨S768x768x128, .f32⟩
  | 9 => ⟨S_, .i32⟩
  | 10 => ⟨S768x768, .i32⟩
  | 11 => ⟨S768x768, .i1⟩
  | 12 => ⟨S_, .i32⟩
  | 13 => ⟨S768x768, .i32⟩
  | 14 => ⟨S768x768, .i32⟩
  | 15 => ⟨S768x768, .i32⟩
  | 16 => ⟨S768x768x1, .i32⟩
  | 17 => ⟨S1, .i32⟩
  | 18 => ⟨S_, .i32⟩
  | 19 => ⟨S768x768x1, .i32⟩
  | 20 => ⟨S768x768x1, .i1⟩
  | 21 => ⟨S1x1x1, .i32⟩
  | 22 => ⟨S768x768x1, .i32⟩
  | 23 => ⟨S768x768x1, .i1⟩
  | 24 => ⟨S768x768x1, .i1⟩
  | 25 => ⟨S_, .i1⟩
  | 26 => ⟨S768x768, .i1⟩
  | 27 => ⟨S768x768x128, .f32⟩
  | 28 => ⟨S768x768x128, .i1⟩
  | 29 => ⟨S_, .f32⟩
  | 30 => ⟨S768x768x128, .f32⟩
  | 31 => ⟨S768x768x128, .f32⟩
  | 32 => ⟨S768x768x128, .f32⟩
  | 33 => ⟨S768x768x1, .i1⟩
  | 34 => ⟨S1x1x128, .f32⟩
  | 35 => ⟨S_, .f32⟩
  | 36 => ⟨S_, .f32⟩
  | 37 => ⟨S768x768x128, .i1⟩
  | 38 => ⟨S768x768x128, .f32⟩
  | 39 => ⟨S768x768x128, .f32⟩
  | 40 => ⟨S768x768x128, .f32⟩
  | 41 => ⟨S768x768x128, .f32⟩
  | _ => ⟨S768, .i32⟩

abbrev hbmTy (i : Nat) : BufTy := match i / 128 with
  | 0 => hbmTy0_0 i
  | 1 => hbmTy0_1 i
  | _ => ⟨S768, .i32⟩

abbrev bufTy : (tb : Table) → Fin (tcTables nBuf tb) → BufTy
  | .hbm, ⟨i, _⟩ => hbmTy i
  | _, _ => ⟨S768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_c_0 : Ref sig .tc := ⟨.hbm, 37, rfl⟩
abbrev main_c_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v30 : Ref sig .tc := ⟨.hbm, 44, rfl⟩
abbrev main_c_2 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_c_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_call3_v0 : Ref sig .tc := ⟨.hbm, 67, rfl⟩
abbrev main_call3_v1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_c_9 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v49 : Ref sig .tc := ⟨.hbm, 85, rfl⟩
abbrev main_c_10 : Ref sig .tc := ⟨.hbm, 86, rfl⟩
abbrev main_call5_v0 : Ref sig .tc := ⟨.hbm, 87, rfl⟩
abbrev main_call5_v1 : Ref sig .tc := ⟨.hbm, 88, rfl⟩
abbrev main_v50 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_c_1 : Ref sig .tc := ⟨.hbm, 98, rfl⟩
abbrev main_call6_c_2 : Ref sig .tc := ⟨.hbm, 99, rfl⟩
abbrev main_call6_v6 : Ref sig .tc := ⟨.hbm, 100, rfl⟩
abbrev main_call6_v7 : Ref sig .tc := ⟨.hbm, 101, rfl⟩
abbrev main_call6_v8 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_c_3 : Ref sig .tc := ⟨.hbm, 106, rfl⟩
abbrev main_call6_v12 : Ref sig .tc := ⟨.hbm, 107, rfl⟩
abbrev main_call6_v13 : Ref sig .tc := ⟨.hbm, 108, rfl⟩
abbrev main_call6_v14 : Ref sig .tc := ⟨.hbm, 109, rfl⟩
abbrev main_call6_cst : Ref sig .tc := ⟨.hbm, 110, rfl⟩
abbrev main_call6_v15 : Ref sig .tc := ⟨.hbm, 111, rfl⟩
abbrev main_v51 : Ref sig .tc := ⟨.hbm, 112, rfl⟩
abbrev main_call7_c : Ref sig .tc := ⟨.hbm, 113, rfl⟩
abbrev main_call7_v0 : Ref sig .tc := ⟨.hbm, 114, rfl⟩
abbrev main_call7_v1 : Ref sig .tc := ⟨.hbm, 115, rfl⟩
abbrev main_call7_c_0 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_call7_v5 : Ref sig .tc := ⟨.hbm, 120, rfl⟩
abbrev main_call7_c_1 : Ref sig .tc := ⟨.hbm, 121, rfl⟩
abbrev main_call7_c_2 : Ref sig .tc := ⟨.hbm, 122, rfl⟩
abbrev main_call7_v6 : Ref sig .tc := ⟨.hbm, 123, rfl⟩
abbrev main_call7_v7 : Ref sig .tc := ⟨.hbm, 124, rfl⟩
abbrev main_call7_v8 : Ref sig .tc := ⟨.hbm, 125, rfl⟩
abbrev main_call7_v9 : Ref sig .tc := ⟨.hbm, 126, rfl⟩
abbrev main_call7_v10 : Ref sig .tc := ⟨.hbm, 127, rfl⟩
abbrev main_call7_v11 : Ref sig .tc := ⟨.hbm, 128, rfl⟩
abbrev main_call7_c_3 : Ref sig .tc := ⟨.hbm, 129, rfl⟩
abbrev main_call7_v12 : Ref sig .tc := ⟨.hbm, 130, rfl⟩
abbrev main_call7_v13 : Ref sig .tc := ⟨.hbm, 131, rfl⟩
abbrev main_call7_v14 : Ref sig .tc := ⟨.hbm, 132, rfl⟩
abbrev main_call7_cst : Ref sig .tc := ⟨.hbm, 133, rfl⟩
abbrev main_call7_v15 : Ref sig .tc := ⟨.hbm, 134, rfl⟩
abbrev main_v52 : Ref sig .tc := ⟨.hbm, 135, rfl⟩
abbrev main_v53 : Ref sig .tc := ⟨.hbm, 136, rfl⟩
abbrev main_call8_c : Ref sig .tc := ⟨.hbm, 137, rfl⟩
abbrev main_call8_v0 : Ref sig .tc := ⟨.hbm, 138, rfl⟩
abbrev main_call8_v1 : Ref sig .tc := ⟨.hbm, 139, rfl⟩
abbrev main_call8_c_0 : Ref sig .tc := ⟨.hbm, 140, rfl⟩
abbrev main_call8_v2 : Ref sig .tc := ⟨.hbm, 141, rfl⟩
abbrev main_call8_v3 : Ref sig .tc := ⟨.hbm, 142, rfl⟩
abbrev main_call8_v4 : Ref sig .tc := ⟨.hbm, 143, rfl⟩
abbrev main_call8_v5 : Ref sig .tc := ⟨.hbm, 144, rfl⟩
abbrev main_call8_c_1 : Ref sig .tc := ⟨.hbm, 145, rfl⟩
abbrev main_call8_c_2 : Ref sig .tc := ⟨.hbm, 146, rfl⟩
abbrev main_call8_v6 : Ref sig .tc := ⟨.hbm, 147, rfl⟩
abbrev main_call8_v7 : Ref sig .tc := ⟨.hbm, 148, rfl⟩
abbrev main_call8_v8 : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_call8_c_3 : Ref sig .tc := ⟨.hbm, 153, rfl⟩
abbrev main_call8_v12 : Ref sig .tc := ⟨.hbm, 154, rfl⟩
abbrev main_call8_v13 : Ref sig .tc := ⟨.hbm, 155, rfl⟩
abbrev main_call8_v14 : Ref sig .tc := ⟨.hbm, 156, rfl⟩
abbrev main_call8_cst : Ref sig .tc := ⟨.hbm, 157, rfl⟩
abbrev main_call8_v15 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_cst : Ref sig .tc := ⟨.hbm, 163, rfl⟩
abbrev main_call9_v0 : Ref sig .tc := ⟨.hbm, 164, rfl⟩
abbrev main_call9_v1 : Ref sig .tc := ⟨.hbm, 165, rfl⟩
abbrev main_call9_v2 : Ref sig .tc := ⟨.hbm, 166, rfl⟩
abbrev main_call9_v3 : Ref sig .tc := ⟨.hbm, 167, rfl⟩
abbrev main_v58 : Ref sig .tc := ⟨.hbm, 168, rfl⟩
abbrev main_v59 : Ref sig .tc := ⟨.hbm, 169, rfl⟩

abbrev nD : Nat := 1
abbrev τ : Topo := Topo.v7x

variable {F : FTy → Type} [FloatOps F]
-- ==== Proof.RowTerm.lean ====
/- What the kernel's body stores for one row of its block, as ONE term in the row's number, and the equation of the body's
   48 stores with that term. -/
module

public import proofs.«01_k».proof.Proof.Gen.KernelIdeal.Value
public import Idealize.ShloMosaic.Lib.Pipeline.ValueKit

@[expose] public section

set_option maxRecDepth 16384

noncomputable section

namespace Cert.KernelIdeal.Row

open Cert.KernelIdeal Cert.KernelIdeal.Gen Idealize.ShloMosaic Idealize.ShloMosaic.TcCoe Idealize.SL.Sem

variable {F : FTy → Type} [FloatOps F]

/-- The clipped distance `min hi (max 0 (x - y + off))`, at every column. -/
def clipped (off hi : BitVec 32) (x y : IVec S1x768 32) : IVec S1x768 32 :=
  minsi (broadcast S1x768 hi) (maxsi (broadcast S1x768 0#32) (addi (subi x y) (broadcast S1x768 off)))

/-- Which columns hold the word `a`. -/
def same (A : IVec S1x768 32) (a : BitVec 32) : IVec S1x768 1 := cmpi .eq A (broadcast S1x768 a)

/-- The position class of every column: the clipped residue distance on the row's own chain, 65 elsewhere. -/
def posClass (A R : IVec S1x768 32) (a r : BitVec 32) : IVec S1x768 32 :=
  select (same A a) (clipped 32#32 64#32 (broadcast S1x768 r) R) (broadcast S1x768 65#32)

/-- The table row of the token class of every column (the class is the clipped distance of the row's number `i` from the
    column's number within the row's own residue, 65 elsewhere; the table's token rows begin at 72). -/
def tokClass (A R : IVec S1x768 32) (a r i : BitVec 32) : IVec S1x768 32 :=
  addi (select (andi (same A a) (same R r))
    (clipped 32#32 64#32 (broadcast S1x768 i) (iota .tc S1x768 32 [1] iota_S1x768_d1_w32)) (broadcast S1x768 65#32))
    (broadcast S1x768 72#32)

/-- The table row of the chain class of every column (the class is the clipped distance of the copy numbers within the
    row's own entity, 5 elsewhere; the table's chain rows begin at 66). -/
def chainClass (E S : IVec S1x768 32) (e s : BitVec 32) : IVec S1x768 32 :=
  addi (select (same E e) (clipped 2#32 4#32 (broadcast S1x768 s) S) (broadcast S1x768 5#32)) (broadcast S1x768 66#32)

/-- A row of class numbers, repeated down 8 sublanes. -/
def spread (x : IVec S1x768 32) : IVec S8x768 32 :=
  broadcastTo S8x768 (shapeCast S1x768 x shapeCasts_S1x768_S1x768) broadcasts_S1x768_S8x768

/-- Where the table rows `lo .. lo + 7` are the class of the column. -/
def hit (lo : BitVec 32) (x : IVec S1x768 32) : IVec S8x768 1 :=
  cmpi .eq (addi (iota .tc S8x768 32 [0] iota_S8x768_d0_w32) (broadcast S8x768 lo)) (spread x)

/-- The `g`-th of the 18 groups of 8 table rows: groups 0 to 7 are position rows, group 8 holds the last two position rows
    and the chain rows, groups 9 to 17 are token rows. -/
def groupHit (p k t : IVec S1x768 32) (g : ℕ) : IVec S8x768 1 :=
  if g < 8 then hit (BitVec.ofNat 32 (8 * g)) p
  else if g = 8 then ori (hit 64#32 p) (hit 64#32 k)
  else hit (BitVec.ofNat 32 (8 * g)) t

/-- One where a table row is taken, zero where it is not. -/
def oneHot (x : IVec S8x768 1) : FVec F S8x768 .f32 :=
  select x (broadcast S8x768 (Scalar.ofBits .f32 0x3F800000#32)) (broadcast S8x768 (Scalar.ofBits .f32 0x00000000#32))

/-- The 18 groups, one under another: 144 table rows by 768 columns. -/
def stacked (p k t : IVec S1x768 32) : FVec F S144x768 .f32 :=
  concatenate S144x768 0
    (List.ofFn fun g : Fin 18 => (⟨S8x768, oneHot (groupHit p k t g)⟩ : (s : Shape) × (s.Idx → F .f32)))
    concatenates_S8x768_S8x768_S8x768_S8x768_S8x768_S8x768_S8x768_S8x768_S8x768_S8x768_S8x768_S8x768_S8x768_S8x768_S8x768_S8x768_S8x768_S8x768_S144x768_d0

/-- What the body stores for a row: the stacked groups, rounded, times the table. -/
def stored (p k t : IVec S1x768 32) (tab : FVec F S144x128 .bf16) : FVec F S1x768x128 .f32 :=
  shapeCast S1x768x128
    (matmul dot_S144x768_S144x128_S768x128_0_0_1_1_n_n none (truncf .bf16 (stacked p k t) bitsLt_bf16_f32) tab
      (constant S768x128 .f32 0x00000000#32))
    shapeCasts_S768x128_S1x768x128

/-- The word a row reads of an argument held in scalar memory: the one at the row's number. -/
def word (i : grid0.Coords) (arg : Memref sig .tc .smem S768 .i32) (h : arg.IsWhole) (x : Vec F S768 .i32) (r : Fin 48) :
    BitVec 32 :=
  View.readAt (Elt F) arg.view
    (Rect.unit (s := S768) (k0_off1 i (BitVec.ofNat 32 r)) S1.size (k0_off1_inb i r)).toLoadRect (h.unread x)
    (Shape.Idx.first (show 0 < S1.numel by decide))

/-- An argument's row, read whole. -/
def line (arg : Memref sig .tc .vmem S1x768 .i32) (h : arg.IsWhole) (x : Vec F S1x768 .i32) : IVec S1x768 32 :=
  shapeCast S1x768 (View.readAt (Elt F) arg.view (Rect.unit ![0, 0] S1x768.size inb_S1x768_S1x768_0_0).toLoadRect (h.unread x))
    shapeCasts_S1x768_S1x768

/-- The table, read whole. -/
def sheet (arg : Memref sig .tc .vmem S144x128 .bf16) (h : arg.IsWhole) (x : Vec F S144x128 .bf16) : FVec F S144x128 .bf16 :=
  shapeCast S144x128 (View.readAt (Elt F) arg.view (Rect.unit ![0, 0] S144x128.size inb_S144x128_S144x128_0_0).toLoadRect (h.unread x))
    shapeCasts_S144x128_S144x128

/-- Row `r` of a block lies in the block. -/
theorem row_inb (r : Fin 48) : ∀ a, (![(r : ℕ), 0, 0] : Fin 3 → ℕ) a + S1x768x128.size a ≤ S48x768x128.size a := by
  intro a
  have := r.isLt
  fin_cases a <;> simp [S1x768x128, S48x768x128] <;> omega

section body

variable (c : Dev nD) (i : grid0.Coords)
  (arg1 : Memref sig .tc .smem S768 .i32) (harg1 : arg1.IsWhole) (arg2 : Memref sig .tc .smem S768 .i32) (harg2 : arg2.IsWhole)
  (arg3 : Memref sig .tc .smem S768 .i32) (harg3 : arg3.IsWhole) (arg4 : Memref sig .tc .smem S768 .i32) (harg4 : arg4.IsWhole)
  (arg5 : Memref sig .tc .vmem S1x768 .i32) (harg5 : arg5.IsWhole) (arg6 : Memref sig .tc .vmem S1x768 .i32) (harg6 : arg6.IsWhole)
  (arg7 : Memref sig .tc .vmem S1x768 .i32) (harg7 : arg7.IsWhole) (arg8 : Memref sig .tc .vmem S1x768 .i32) (harg8 : arg8.IsWhole)
  (arg9 : Memref sig .tc .vmem S144x128 .bf16) (harg9 : arg9.IsWhole)
  (arg10 : Memref sig .tc .vmem S48x768x128 .f32) (harg10 : arg10.IsWhole)
  (x0 x1 x2 x3 : Vec F S768 .i32) (x4 x5 x6 x7 : Vec F S1x768 .i32) (x8 : Vec F S144x128 .bf16)

/-- What the body stores for row `r` of the block of grid point `i`. -/
def rowOut (r : Fin 48) : FVec F S1x768x128 .f32 :=
  stored
    (posClass (line arg5 harg5 x4) (line arg6 harg6 x5) (word i arg1 harg1 x0 r) (word i arg2 harg2 x1 r))
    (chainClass (line arg7 harg7 x6) (line arg8 harg8 x7) (word i arg3 harg3 x2 r) (word i arg4 harg4 x3 r))
    (tokClass (line arg5 harg5 x4) (line arg6 harg6 x5) (word i arg1 harg1 x0 r) (word i arg2 harg2 x1 r)
      (Scalar.addi (Scalar.muli (BitVec.ofNat 32 (i 0).val) 48#32) (BitVec.ofNat 32 r)))
    (sheet arg9 harg9 x8)

/-- The store of row `r`. -/
def rowPiece (r : Fin 48) : View.Piece (Elt F) S48x768x128 .f32 :=
  ⟨Rect.unit ![(r : ℕ), 0, 0] S1x768x128.size (row_inb r),
    rowOut i arg1 harg1 arg2 harg2 arg3 harg3 arg4 harg4 arg5 harg5 arg6 harg6 arg7 harg7 arg8 harg8 arg9 harg9
      x0 x1 x2 x3 x4 x5 x6 x7 x8 r⟩

/-- The stores of the first `n` rows, the last one first. -/
def rowPieces : (n : ℕ) → n ≤ 48 → List (View.Piece (Elt F) S48x768x128 .f32)
  | 0, _ => []
  | n + 1, h => rowPiece i arg1 harg1 arg2 harg2 arg3 harg3 arg4 harg4 arg5 harg5 arg6 harg6 arg7 harg7 arg8 harg8 arg9 harg9
      x0 x1 x2 x3 x4 x5 x6 x7 x8 ⟨n, h⟩ :: rowPieces n (Nat.le_of_succ_le h)

/-- Each of the listed stores is the store of some row. -/
theorem mem_rowPieces (n : ℕ) (h : n ≤ 48) (p : View.Piece (Elt F) S48x768x128 .f32)
    (hp : p ∈ rowPieces i arg1 harg1 arg2 harg2 arg3 harg3 arg4 harg4 arg5 harg5 arg6 harg6 arg7 harg7 arg8 harg8 arg9 harg9
      x0 x1 x2 x3 x4 x5 x6 x7 x8 n h) :
    ∃ r : Fin 48, p = rowPiece i arg1 harg1 arg2 harg2 arg3 harg3 arg4 harg4 arg5 harg5 arg6 harg6 arg7 harg7 arg8 harg8
      arg9 harg9 x0 x1 x2 x3 x4 x5 x6 x7 x8 r := by
  induction n with
  | zero => exact absurd hp (by simp [rowPieces])
  | succ n ih =>
    rcases List.mem_cons.1 hp with h' | h'
    · exact ⟨_, h'⟩
    · exact ih _ h'

/-- The body's stores are the stores of the 48 rows. -/
theorem body_pieces :
    (kernelRun0_A c i arg1 harg1 arg2 harg2 arg3 harg3 arg4 harg4 arg5 harg5 arg6 harg6 arg7 harg7 arg8 harg8 arg9 harg9 arg10
      harg10 x0 x1 x2 x3 x4 x5 x6 x7 x8).1
      = rowPieces i arg1 harg1 arg2 harg2 arg3 harg3 arg4 harg4 arg5 harg5 arg6 harg6 arg7 harg7 arg8 harg8 arg9 harg9
        x0 x1 x2 x3 x4 x5 x6 x7 x8 48 le_rfl := by
  rfl

end body

end Cert.KernelIdeal.Row
-- ==== Proof.Classes.lean ====
/- The class numbers of one pair of tokens, as 32-bit words, and the ranges they lie in. No program is named here: both the
   kernel's words and the reference's are these. -/
module

public import Idealize.ShloMosaic.Lib.Pointwise

@[expose] public section

noncomputable section

namespace Cert.Pair

open Idealize.ShloMosaic

/-- The clipped distance `min hi (max 0 (x - y + off))`. -/
def dist (off hi x y : BitVec 32) : BitVec 32 := IntOp.minsi hi (IntOp.maxsi 0#32 (IntOp.addi (IntOp.subi x y) off))

/-- The position class of a token `(aj, rj)` seen from a token `(a, r)`: 65 off the chain. -/
def pos (a r aj rj : BitVec 32) : BitVec 32 :=
  Scalar.select (IntOp.cmpi .eq a aj) (dist 32#32 64#32 r rj) 65#32

/-- The token class of token number `j` seen from token number `i`: 65 outside the residue. -/
def tok (a r i aj rj j : BitVec 32) : BitVec 32 :=
  Scalar.select (IntOp.andi (IntOp.cmpi .eq a aj) (IntOp.cmpi .eq r rj)) (dist 32#32 64#32 i j) 65#32

/-- The chain class of a token `(ej, sj)` seen from a token `(e, s)`: 5 outside the entity. -/
def chain (e s ej sj : BitVec 32) : BitVec 32 :=
  Scalar.select (IntOp.cmpi .eq e ej) (dist 2#32 4#32 s sj) 5#32

/-- Comparing for equality does not depend on the order. -/
theorem cmpi_eq_comm (x y : BitVec 32) : IntOp.cmpi .eq x y = IntOp.cmpi .eq y x := by
  simp only [IntOp.cmpi]; congr 1; exact Bool.beq_comm

/-- A clipped distance does not exceed its upper end. -/
theorem dist_le (off hi x y : BitVec 32) (h : hi.toNat < 2 ^ 31) : (dist off hi x y).toNat ≤ hi.toNat := by
  unfold dist
  generalize IntOp.addi (IntOp.subi x y) off = d
  simp only [IntOp.minsi, IntOp.maxsi, BitVec.slt, decide_eq_true_eq]
  have e0 : (0#32).toInt = 0 := rfl
  have eh : hi.toInt = hi.toNat := by rw [BitVec.toInt_eq_toNat_cond]; rw [if_pos]; omega
  have ed := BitVec.toInt_eq_toNat_cond d
  split_ifs at ed ⊢ with h1 h2 h3 <;> simp_all <;> omega

/-- A choice between two bounded words is bounded. -/
theorem select_le {n : ℕ} (c : BitVec 1) {x y : BitVec 32} (hx : x.toNat ≤ n) (hy : y.toNat ≤ n) :
    (Scalar.select c x y).toNat ≤ n := by
  unfold Scalar.select; split_ifs
  · exact hx
  · exact hy

/-- Position classes are at most 65. -/
theorem pos_le (a r aj rj : BitVec 32) : (pos a r aj rj).toNat ≤ 65 :=
  select_le _ ((dist_le _ _ _ _ (by decide)).trans (by decide)) (by decide)

/-- Token classes are at most 65. -/
theorem tok_le (a r i aj rj j : BitVec 32) : (tok a r i aj rj j).toNat ≤ 65 :=
  select_le _ ((dist_le _ _ _ _ (by decide)).trans (by decide)) (by decide)

/-- Chain classes are at most 5. -/
theorem chain_le (e s ej sj : BitVec 32) : (chain e s ej sj).toNat ≤ 5 :=
  select_le _ ((dist_le _ _ _ _ (by decide)).trans (by decide)) (by decide)

/-- A chain class is below 5 exactly within the entity. -/
theorem chain_lt_iff (e s ej sj : BitVec 32) : (chain e s ej sj).toNat < 5 ↔ e = ej := by
  have h := dist_le 2#32 4#32 s sj (by decide)
  have h4 : (4#32 : BitVec 32).toNat = 4 := rfl
  have h5 : (5#32 : BitVec 32).toNat = 5 := rfl
  unfold chain
  by_cases he : e = ej
  · subst he
    simp [Scalar.select, IntOp.cmpi]; omega
  · have : (e == ej) = false := by simpa using he
    simp [Scalar.select, IntOp.cmpi, this, he]

end Cert.Pair
-- ==== Proof.RowValue.lean ====
/- What a stored row holds at an index: the sum of three rows of the table. -/
module

public import proofs.«01_k».proof.Proof.RowTerm
public import proofs.«01_k».proof.Proof.Classes
public import Idealize.ShloMosaic.Lib.Pointwise

@[expose] public section

set_option maxRecDepth 16384

noncomputable section

namespace Cert.KernelIdeal.Row

open Cert.KernelIdeal Cert.KernelIdeal.Gen Idealize.ShloMosaic Idealize.ShloMosaic.TcCoe Idealize.SL.Sem

/-- The kernel's position class at a column is the pair's. -/
theorem posClass_apply (A R : IVec S1x768 32) (a r : BitVec 32) (j : Fin 768) :
    posClass A R a r (ix2 0 j) = Cert.Pair.pos a r (A (ix2 0 j)) (R (ix2 0 j)) := by
  pointwise [posClass, same, clipped, Cert.Pair.pos, Cert.Pair.dist]
  rw [Cert.Pair.cmpi_eq_comm a]

/-- The kernel's token class at a column is the pair's, 72 rows down. -/
theorem tokClass_apply (A R : IVec S1x768 32) (a r i : BitVec 32) (j : Fin 768) :
    tokClass A R a r i (ix2 0 j)
      = IntOp.addi (Cert.Pair.tok a r i (A (ix2 0 j)) (R (ix2 0 j)) (BitVec.ofNat 32 j)) 72#32 := by
  pointwise [tokClass, same, clipped, Cert.Pair.tok, Cert.Pair.dist]
  rw [Cert.Pair.cmpi_eq_comm a, Cert.Pair.cmpi_eq_comm r]

/-- The kernel's chain class at a column is the pair's, 66 rows down. -/
theorem chainClass_apply (E S : IVec S1x768 32) (e s : BitVec 32) (j : Fin 768) :
    chainClass E S e s (ix2 0 j) = IntOp.addi (Cert.Pair.chain e s (E (ix2 0 j)) (S (ix2 0 j))) 66#32 := by
  pointwise [chainClass, same, clipped, Cert.Pair.chain, Cert.Pair.dist]
  rw [Cert.Pair.cmpi_eq_comm e]

/-- Adding a small offset to a small word does not wrap. -/
theorem addi_toNat {x : BitVec 32} {n : ℕ} (off : ℕ) (hx : x.toNat ≤ n) (h : n + off < 2 ^ 32) :
    (IntOp.addi x (BitVec.ofNat 32 off)).toNat = x.toNat + off := by
  simp only [IntOp.addi, BitVec.toNat_add, BitVec.toNat_ofNat]; omega

/-- Row `s` of group `g` is taken where the class is `8 g + s`. -/
theorem hit_apply (x : IVec S1x768 32) (g : ℕ) (hg : g < 18) (s : Fin 8) (j : Fin 768) :
    hit (BitVec.ofNat 32 (8 * g)) x (ix2 s j) = BitVec.ofBool (decide ((x (ix2 0 j)).toNat = 8 * g + s)) := by
  pointwise [hit, spread]
  simp only [IntOp.cmpi, IntOp.addi]
  congr 1
  rw [beq_eq_decide, decide_eq_decide, ← BitVec.toNat_inj]
  simp only [BitVec.toNat_add, BitVec.toNat_ofNat]
  have := s.isLt
  omega

/-- A sum with the indicator of three different indices is the sum of the three terms. -/
theorem sum_three {N : ℕ} (f : Fin N → EReal) (a b c : Fin N) (hab : a ≠ b) (hac : a ≠ c) (hbc : b ≠ c) :
    ∑ n : Fin N, (if ((n : ℕ) = a ∨ (n : ℕ) = b) ∨ (n : ℕ) = c then (1 : EReal) else 0) * f n = f a + f b + f c := by
  have e : ∀ n : Fin N, (if ((n : ℕ) = a ∨ (n : ℕ) = b) ∨ (n : ℕ) = c then (1 : EReal) else 0) * f n
      = if n ∈ ({a, b, c} : Finset (Fin N)) then f n else 0 := by
    intro n
    have : (((n : ℕ) = a ∨ (n : ℕ) = b) ∨ (n : ℕ) = c) ↔ n ∈ ({a, b, c} : Finset (Fin N)) := by
      simp only [Finset.mem_insert, Finset.mem_singleton, Fin.ext_iff, or_assoc]
    by_cases h : n ∈ ({a, b, c} : Finset (Fin N))
    · rw [if_pos h, if_pos (this.2 h), one_mul]
    · rw [if_neg h, if_neg (fun h' => h (this.1 h')), zero_mul]
  rw [Finset.sum_congr rfl fun n _ => e n, Finset.sum_ite_mem, Finset.univ_inter,
    Finset.sum_insert (by simp [hab, hac]), Finset.sum_insert (by simp [hbc]), Finset.sum_singleton, add_assoc]

section classes

variable (p k t : IVec S1x768 32) (j : Fin 768)
  (hp : (p (ix2 0 j)).toNat ≤ 65) (hk : 66 ≤ (k (ix2 0 j)).toNat ∧ (k (ix2 0 j)).toNat ≤ 71)
  (ht : 72 ≤ (t (ix2 0 j)).toNat ∧ (t (ix2 0 j)).toNat ≤ 137)

include hp hk ht

/-- Row `s` of group `g` is taken where one of the three classes is `8 g + s`. -/
theorem groupHit_apply (g : Fin 18) (s : Fin 8) :
    groupHit p k t g (ix2 s j) = BitVec.ofBool (decide ((8 * (g : ℕ) + s = (p (ix2 0 j)).toNat
      ∨ 8 * (g : ℕ) + s = (k (ix2 0 j)).toNat) ∨ 8 * (g : ℕ) + s = (t (ix2 0 j)).toNat)) := by
  have hg := g.isLt
  have hs := s.isLt
  unfold groupHit
  split_ifs with h1 h2
  · rw [hit_apply p g hg]; congr 1; rw [decide_eq_decide]; omega
  · have e8 : (64#32 : BitVec 32) = BitVec.ofNat 32 (8 * 8) := rfl
    show IntOp.ori _ _ = _
    rw [e8, hit_apply p 8 (by omega), hit_apply k 8 (by omega), h2]
    simp only [IntOp.ori, ← BitVec.ofBool_or_ofBool]
    rw [BitVec.ofBool_or_ofBool, ← Bool.decide_or]
    congr 1; rw [decide_eq_decide]; omega
  · rw [hit_apply t g hg]; congr 1; rw [decide_eq_decide]; omega

/-- The stacked groups at an index: one where the row is one of the column's three classes, else zero. -/
theorem stacked_apply (n : Fin 144) :
    stacked (F := Ideal) p k t (ix2 n j) = if ((n : ℕ) = (p (ix2 0 j)).toNat
      ∨ (n : ℕ) = (k (ix2 0 j)).toNat) ∨ (n : ℕ) = (t (ix2 0 j)).toNat then (1 : EReal) else 0 := by
  have hn := n.isLt
  unfold stacked
  refine (concatenate_ofFn_apply (s₁ := S8x768) (t := S144x768) 0 (fun g : Fin 18 => oneHot (F := Ideal) (groupHit p k t g))
    concatenates_S8x768_S8x768_S8x768_S8x768_S8x768_S8x768_S8x768_S8x768_S8x768_S8x768_S8x768_S8x768_S8x768_S8x768_S8x768_S8x768_S8x768_S8x768_S144x768_d0
    rfl 8 rfl (ix2 n j) ⟨n / 8, by omega⟩ rfl (ix2 ⟨n % 8, Nat.mod_lt _ (by omega)⟩ j) rfl
    (fun b hb => by fin_cases b; exact absurd rfl hb; rfl)).trans ?_
  have e : oneHot (F := Ideal) (groupHit p k t (⟨n / 8, by omega⟩ : Fin 18)) (ix2 ⟨n % 8, Nat.mod_lt _ (by omega)⟩ j)
      = Scalar.select (groupHit p k t (⟨n / 8, by omega⟩ : Fin 18) (ix2 ⟨n % 8, Nat.mod_lt _ (by omega)⟩ j)) (1 : EReal) 0 := by
    pointwise [oneHot]
  rw [e, groupHit_apply p k t j hp hk ht]
  simp only [Nat.div_add_mod]
  unfold Scalar.select
  split_ifs <;> simp_all

/-- A stored row at column `j` and channel `z`: the table's rows of the column's three classes, added. -/
theorem stored_apply (tab : FVec Ideal S144x128 .bf16) (z : Fin 128) :
    (stored (F := Ideal) p k t tab (ix3 0 j z) : EReal)
      = (tab (ix2 ⟨(p (ix2 0 j)).toNat, by omega⟩ z) : EReal) + tab (ix2 ⟨(k (ix2 0 j)).toNat, by omega⟩ z)
        + tab (ix2 ⟨(t (ix2 0 j)).toNat, by omega⟩ z) := by
  pointwise [stored]
  rw [Finset.sum_congr rfl fun n _ => congrArg (· * (tab (ix2 n z) : EReal)) (stacked_apply p k t j hp hk ht n)]
  exact sum_three (fun n => (tab (ix2 n z) : EReal)) ⟨(p (ix2 0 j)).toNat, by omega⟩ ⟨(k (ix2 0 j)).toNat, by omega⟩
    ⟨(t (ix2 0 j)).toNat, by omega⟩ (by simp [Fin.ext_iff]; omega) (by simp [Fin.ext_iff]; omega) (by simp [Fin.ext_iff]; omega)

end classes

end Cert.KernelIdeal.Row
-- ==== Proof.Inputs.lean ====
/- What the kernel's body reads: the staged blocks in terms of the arguments, and the four rows the host reshapes. -/
module

public import proofs.«01_k».proof.Proof.RowTerm
public import Idealize.ShloMosaic.Lib.Pointwise
public import Idealize.ShloMosaic.Lib.Claim

@[expose] public section

set_option maxRecDepth 16384

noncomputable section

namespace Cert.KernelIdeal.Row

open Cert.KernelIdeal Cert.KernelIdeal.Gen Idealize.ShloMosaic Idealize.ShloMosaic.TcCoe Idealize.SL.Sem

variable {F : FTy → Type} [FloatOps F]

/-- A row's word of an argument in scalar memory is the argument at the row's number. -/
theorem word_eq (i : grid0.Coords) (arg : Memref sig .tc .smem S768 .i32) (h : arg.IsWhole) (x : Vec F S768 .i32) (r : Fin 48) :
    word i arg h x r = x (ix1 ⟨48 * (i 0).val + r, by have := (i 0).isLt; have := r.isLt; simp [grid0] at *; omega⟩) := by
  unfold word
  rw [View.readAt_eq_ld, h.read_unread]
  refine congrArg x (funext fun a => ?_)
  have h0 := i 0 |>.isLt
  match a with
  | ⟨0, _⟩ =>
    apply Fin.ext
    show (BitVec.toNat (Scalar.indexCast (Scalar.addi (Scalar.muli (BitVec.ofNat 32 ↑(i 0)) 48#32) (BitVec.ofNat 32 ↑r)))) + 1 * 0 = 48 * (i 0).val + r.val
    have hi : (i 0).val < 16 := (i 0).isLt
    have hr := r.isLt
    simp [Scalar.indexCast, Scalar.addi, Scalar.muli, IntOp.addi, IntOp.muli]
    omega

/-- A row argument read whole is the argument. -/
theorem line_eq (arg : Memref sig .tc .vmem S1x768 .i32) (h : arg.IsWhole) (x : Vec F S1x768 .i32) (j : Fin 768) :
    line arg h x (ix2 0 j) = x (ix2 0 j) := by
  unfold line
  rw [View.readAt_eq_ld, h.read_unread]
  pointwise

/-- The table read whole is the table. -/
theorem sheet_eq (arg : Memref sig .tc .vmem S144x128 .bf16) (h : arg.IsWhole) (x : Vec F S144x128 .bf16) (n : Fin 144)
    (z : Fin 128) : sheet arg h x (ix2 n z) = x (ix2 n z) := by
  unfold sheet
  rw [View.readAt_eq_ld, h.read_unread]
  pointwise

variable (m : (ℓ : Loc nD τ sig) → Buf (Elt F) ℓ) (c : Dev nD)

/-- The index maps of the windows at every grid point. -/
theorem idx : ∀ t : Fin cfg0.N, (win0_0.index t = fun _ => 0) ∧ (win0_1.index t = fun _ => 0) ∧ (win0_2.index t = fun _ => 0)
    ∧ (win0_3.index t = fun _ => 0) ∧ (win0_4.index t = fun _ => 0) ∧ (win0_5.index t = fun _ => 0)
    ∧ (win0_6.index t = fun _ => 0) ∧ (win0_7.index t = fun _ => 0) ∧ (win0_8.index t = fun _ => 0)
    ∧ win0_9.index t = ![t.val, 0, 0] :=
  (by decide +kernel : ∀ t : Fin grid0.N, _)

/-- Window 0 stages the whole of argument 0. -/
theorem iblk0 (t : Fin cfg0.N) : iblk m c 0 t = m ((c : Thread nD τ).loc main_arg0) := by
  blk_ext! [iblk, V, idx t]

/-- Window 1 stages the whole of argument 1. -/
theorem iblk1 (t : Fin cfg0.N) : iblk m c 1 t = m ((c : Thread nD τ).loc main_arg1) := by
  blk_ext! [iblk, V, idx t]

/-- Window 2 stages the whole of argument 2. -/
theorem iblk2 (t : Fin cfg0.N) : iblk m c 2 t = m ((c : Thread nD τ).loc main_arg2) := by
  blk_ext! [iblk, V, idx t]

/-- Window 3 stages the whole of argument 4. -/
theorem iblk3 (t : Fin cfg0.N) : iblk m c 3 t = m ((c : Thread nD τ).loc main_arg4) := by
  blk_ext! [iblk, V, idx t]

/-- The rows that the host reshapes from arguments 0, 1, 2 and 4. -/
theorem host_rows (j : Fin 768) :
    V m c main_v18 (ix2 0 j) = m ((c : Thread nD τ).loc main_arg0) (ix1 j)
    ∧ V m c main_v19 (ix2 0 j) = m ((c : Thread nD τ).loc main_arg1) (ix1 j)
    ∧ V m c main_v20 (ix2 0 j) = m ((c : Thread nD τ).loc main_arg2) (ix1 j)
    ∧ V m c main_v21 (ix2 0 j) = m ((c : Thread nD τ).loc main_arg4) (ix1 j) := by
  unfold V
  simp only [hostOps0, hostOps0_1, hostOps0_2, List.flatten_cons, List.flatten_nil, List.append_nil, List.cons_append,
    List.nil_append]
  refine ⟨?_, ?_, ?_, ?_⟩ <;> (after_results; pointwise)

/-- Window 4 stages argument 0 as one row. -/
theorem iblk4 (t : Fin cfg0.N) (j : Fin 768) : iblk m c 4 t (ix2 0 j) = m ((c : Thread nD τ).loc main_arg0) (ix1 j) :=
  Eq.trans (b := V m c main_v18 (ix2 0 j)) (by blk_ext [iblk, idx t]) (host_rows m c j).1

/-- Window 5 stages argument 1 as one row. -/
theorem iblk5 (t : Fin cfg0.N) (j : Fin 768) : iblk m c 5 t (ix2 0 j) = m ((c : Thread nD τ).loc main_arg1) (ix1 j) :=
  Eq.trans (b := V m c main_v19 (ix2 0 j)) (by blk_ext [iblk, idx t]) (host_rows m c j).2.1

/-- Window 6 stages argument 2 as one row. -/
theorem iblk6 (t : Fin cfg0.N) (j : Fin 768) : iblk m c 6 t (ix2 0 j) = m ((c : Thread nD τ).loc main_arg2) (ix1 j) :=
  Eq.trans (b := V m c main_v20 (ix2 0 j)) (by blk_ext [iblk, idx t]) (host_rows m c j).2.2.1

/-- Window 7 stages argument 4 as one row. -/
theorem iblk7 (t : Fin cfg0.N) (j : Fin 768) : iblk m c 7 t (ix2 0 j) = m ((c : Thread nD τ).loc main_arg4) (ix1 j) :=
  Eq.trans (b := V m c main_v21 (ix2 0 j)) (by blk_ext [iblk, idx t]) (host_rows m c j).2.2.2

end Cert.KernelIdeal.Row
-- ==== Proof.Table.lean ====
/- The table the host builds from the weights, row by row. -/
module

public import proofs.«01_k».proof.Proof.Inputs

@[expose] public section

set_option maxRecDepth 16384

noncomputable section

namespace Cert.KernelIdeal.Row

open Cert.KernelIdeal Cert.KernelIdeal.Gen Idealize.ShloMosaic Idealize.ShloMosaic.TcCoe Idealize.SL.Sem

variable (m : (ℓ : Loc nD τ sig) → Buf (Elt Ideal) ℓ) (c : Dev nD)

/-- The weights, as launched. -/
abbrev weights : FVec Ideal S128x139 .f32 := m ((c : Thread nD τ).loc main_arg5)

/-- Entry `(n, z)` of the table: the three groups of columns of the weights, transposed and stacked, the entity column added to the
    first five rows of the middle group, zeros below. -/
theorem table_apply (n : Fin 144) (z : Fin 128) : (V m c main_v17 (ix2 n z) : EReal) =
    if h : n.val < 66 then weights m c (ix2 z ⟨n.val, by omega⟩)
    else if h : n.val - 66 < 6 then
      weights m c (ix2 z ⟨133 + (n.val - 66), by omega⟩)
        + Scalar.select (IntOp.cmpi .slt (BitVec.ofNat 32 (n.val - 66)) 5#32) (weights m c (ix2 z 132)) (0 : EReal)
    else if h : n.val - 66 - 6 < 66 then weights m c (ix2 z ⟨66 + (n.val - 66 - 6), by omega⟩)
    else 0 := by
  unfold V
  simp only [hostOps0, hostOps0_1, hostOps0_2, List.flatten_cons, List.flatten_nil, List.append_nil, List.cons_append,
    List.nil_append]
  after_results
  pointwise
  after_results_simp
  simp only [StableHlo.TRef.toBuf, StableHlo.TRef.ofBuf, id, cast_cast, cast_eq]
  pointwise

/-- The block of the table that a grid point reads is the table. -/
theorem iblk8 (t : Fin cfg0.N) (n : Fin 144) (z : Fin 128) : iblk m c 8 t (ix2 n z) = V m c main_v17 (ix2 n z) := by
  blk_ext [iblk, idx t]

/-- Row `n` of the position group. -/
theorem table_pos (n : ℕ) (hn : n ≤ 65) (z : Fin 128) :
    (V m c main_v17 (ix2 ⟨n, by omega⟩ z) : EReal) = weights m c (ix2 z ⟨n, by omega⟩) := by
  rw [table_apply, dif_pos (show n < 66 by omega)]

/-- Which rows of the middle group carry the entity column: all but the last. -/
theorem carries : ∀ k : Fin 6, IntOp.cmpi .slt (BitVec.ofNat 32 k.val) 5#32 = if k.val < 5 then 1#1 else 0#1 := by decide

/-- Row `k` of the chain group. -/
theorem table_chain (k : ℕ) (hk : k ≤ 5) (z : Fin 128) :
    (V m c main_v17 (ix2 ⟨k + 66, by omega⟩ z) : EReal) =
      weights m c (ix2 z ⟨133 + k, by omega⟩) + if k < 5 then weights m c (ix2 z 132) else (0 : EReal) := by
  rw [table_apply, dif_neg (show ¬k + 66 < 66 by omega), dif_pos (show k + 66 - 66 < 6 by omega)]
  have e : k + 66 - 66 = k := by omega
  simp only [e]
  rw [carries ⟨k, by omega⟩]
  by_cases h : k < 5 <;> simp [h, Scalar.select]

/-- Row `n` of the token group. -/
theorem table_tok (n : ℕ) (hn : n ≤ 65) (z : Fin 128) :
    (V m c main_v17 (ix2 ⟨n + 72, by omega⟩ z) : EReal) = weights m c (ix2 z ⟨66 + n, by omega⟩) := by
  rw [table_apply, dif_neg (show ¬n + 72 < 66 by omega), dif_neg (show ¬n + 72 - 66 < 6 by omega), dif_pos (show n + 72 - 66 - 6 < 66 by omega)]
  have e : n + 72 - 66 - 6 = n := by omega
  simp only [e]

end Cert.KernelIdeal.Row
-- ==== Proof.Entry.lean ====
/- The result, entry by entry: the four weights that one pair of tokens picks out, added. -/
module

public import proofs.«01_k».proof.Proof.Classes

@[expose] public section

noncomputable section

namespace Cert.Pair

open Idealize.ShloMosaic

/-- A vector of 768 words. -/
abbrev Words : Type := IVec ⟨1, ![768]⟩ 32

/-- Entry `(i, j, z)` of the result for chain numbers `A`, residue numbers `R`, entity numbers `E`, copy numbers `S` and weights `W`, the
    tokens numbered by their places: the weights of the position class, of the token class and of the chain class of the pair, and the
    entity weight if both tokens are of one entity. -/
def entry (A R E S : Words) (W : FVec Ideal ⟨2, ![128, 139]⟩ .f32) (i j : Fin 768) (z : Fin 128) : EReal :=
  (W (ix2 z ⟨(pos (A (ix1 i)) (R (ix1 i)) (A (ix1 j)) (R (ix1 j))).toNat, by
        have := pos_le (A (ix1 i)) (R (ix1 i)) (A (ix1 j)) (R (ix1 j)); omega⟩) : EReal)
    + W (ix2 z ⟨66 + (tok (A (ix1 i)) (R (ix1 i)) (BitVec.ofNat 32 i) (A (ix1 j)) (R (ix1 j)) (BitVec.ofNat 32 j)).toNat, by
        have := tok_le (A (ix1 i)) (R (ix1 i)) (BitVec.ofNat 32 i) (A (ix1 j)) (R (ix1 j)) (BitVec.ofNat 32 j); omega⟩)
    + W (ix2 z ⟨133 + (chain (E (ix1 i)) (S (ix1 i)) (E (ix1 j)) (S (ix1 j))).toNat, by
        have := chain_le (E (ix1 i)) (S (ix1 i)) (E (ix1 j)) (S (ix1 j)); omega⟩)
    + if E (ix1 i) = E (ix1 j) then W (ix2 z 132) else 0

end Cert.Pair
-- ==== Proof.Array.lean ====
/- What the kernel leaves in its result array. -/
module

public import proofs.«01_k».proof.Proof.RowValue
public import proofs.«01_k».proof.Proof.Table
public import proofs.«01_k».proof.Proof.Entry
public import proofs.«01_k».proof.Proof.Gen.KernelIdeal.Value

@[expose] public section

set_option maxRecDepth 16384

noncomputable section

namespace Cert.KernelIdeal.Row

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The token whose row is row `r` of the block of grid point `t`. -/
abbrev token (t : Fin cfg0.N) (r : Fin 48) : Fin 768 :=
  ⟨48 * t.val + r.val, by have := t.isLt; have := r.isLt; have : cfg0.N = 16 := N_0; omega⟩

/-- A grid point's one coordinate is its number. -/
theorem coords_val : ∀ t : Fin cfg0.N, ((grid0.coords t) 0).val = t.val :=
  (by decide +kernel : ∀ t : Fin grid0.N, _)

/-- The number of row `r` of the block of grid point `t`, as the kernel computes it. -/
theorem row_number (t : Fin cfg0.N) (r : Fin 48) :
    Scalar.addi (Scalar.muli (BitVec.ofNat 32 ((grid0.coords t) 0).val) 48#32) (BitVec.ofNat 32 r) = BitVec.ofNat 32 (token t r) := by
  rw [coords_val]
  apply BitVec.eq_of_toNat_eq
  simp [Scalar.addi, Scalar.muli, IntOp.addi, IntOp.muli]
  congr 1; omega

/-- The entry that the kernel is to leave at an index of its result. -/
def result : FVec Ideal S768x768x128 .f32 := fun i =>
  Cert.Pair.entry (m ((c : Thread nD τ).loc main_arg0)) (m ((c : Thread nD τ).loc main_arg1)) (m ((c : Thread nD τ).loc main_arg2))
    (m ((c : Thread nD τ).loc main_arg4)) (m ((c : Thread nD τ).loc main_arg5)) ⟨(i 0).val, (i 0).isLt⟩ ⟨(i 1).val, (i 1).isLt⟩ ⟨(i 2).val, (i 2).isLt⟩

/-- The word read for a row, at a grid point. -/
theorem word_token (t : Fin cfg0.N) (arg : Memref sig .tc .smem S768 .i32) (h : arg.IsWhole) (x : IVec S768 32) (r : Fin 48) :
    word (F := Ideal) (grid0.coords t) arg h x r = x (ix1 (token t r)) := by
  rw [word_eq]
  congr 2
  exact Fin.ext (by show 48 * ((grid0.coords t) 0).val + r.val = _; rw [coords_val])

/-- A stored row whose classes are `P`, `K`, `T` is the sum of the table's rows `P`, `K + 66` and `T + 72`. -/
theorem stored_classes (p k t : IVec S1x768 32) (j : Fin 768) {P K T : BitVec 32}
    (hp : p (ix2 0 j) = P) (hP : P.toNat ≤ 65) (hk : k (ix2 0 j) = IntOp.addi K 66#32) (hK : K.toNat ≤ 5)
    (ht : t (ix2 0 j) = IntOp.addi T 72#32) (hT : T.toNat ≤ 65) (tab : FVec Ideal S144x128 .bf16) (z : Fin 128) :
    (stored (F := Ideal) p k t tab (ix3 0 j z) : EReal)
      = (tab (ix2 ⟨P.toNat, by omega⟩ z) : EReal) + tab (ix2 ⟨K.toNat + 66, by omega⟩ z) + tab (ix2 ⟨T.toNat + 72, by omega⟩ z) := by
  have ek : (k (ix2 0 j)).toNat = K.toNat + 66 := by rw [hk]; exact addi_toNat 66 hK (by norm_num)
  have et : (t (ix2 0 j)).toNat = T.toNat + 72 := by rw [ht]; exact addi_toNat 72 hT (by norm_num)
  subst hp
  rw [stored_apply p k t j hP (by omega) (by omega) tab z]
  simp only [ek, et]

/-- The order in which the four weights are added does not matter. -/
theorem regroup (a b d e : EReal) : a + (b + e) + d = a + d + b + e := by
  rw [add_right_comm a (b + e) d, add_assoc (a + d) b e]

/-- Row `r` of the block of grid point `t`, entry by entry. -/
theorem rowOut_apply (t : Fin cfg0.N) (r : Fin 48) (j : Fin 768) (z : Fin 128) :
    (rowOut (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t)
      (iblk m c 3 t) (iblk m c 4 t) (iblk m c 5 t) (iblk m c 6 t) (iblk m c 7 t) (iblk m c 8 t) r (ix3 0 j z) : EReal)
      = result m c (ix3 (token t r) j z) := by
  have hp := posClass_apply (line (F := Ideal) (ms0_4 t) (hs0_4 t) (iblk m c 4 t)) (line (F := Ideal) (ms0_5 t) (hs0_5 t) (iblk m c 5 t))
    (word (F := Ideal) (grid0.coords t) (ms0_0 t) (hs0_0 t) (iblk m c 0 t) r) (word (F := Ideal) (grid0.coords t) (ms0_1 t) (hs0_1 t) (iblk m c 1 t) r) j
  have ht := tokClass_apply (line (F := Ideal) (ms0_4 t) (hs0_4 t) (iblk m c 4 t)) (line (F := Ideal) (ms0_5 t) (hs0_5 t) (iblk m c 5 t))
    (word (F := Ideal) (grid0.coords t) (ms0_0 t) (hs0_0 t) (iblk m c 0 t) r) (word (F := Ideal) (grid0.coords t) (ms0_1 t) (hs0_1 t) (iblk m c 1 t) r)
    (Scalar.addi (Scalar.muli (BitVec.ofNat 32 ((grid0.coords t) 0).val) 48#32) (BitVec.ofNat 32 r)) j
  have hk := chainClass_apply (line (F := Ideal) (ms0_6 t) (hs0_6 t) (iblk m c 6 t)) (line (F := Ideal) (ms0_7 t) (hs0_7 t) (iblk m c 7 t))
    (word (F := Ideal) (grid0.coords t) (ms0_2 t) (hs0_2 t) (iblk m c 2 t) r) (word (F := Ideal) (grid0.coords t) (ms0_3 t) (hs0_3 t) (iblk m c 3 t) r) j
  rw [line_eq, line_eq, word_token, word_token, iblk4, iblk5, iblk0, iblk1] at hp ht
  rw [line_eq, line_eq, word_token, word_token, iblk6, iblk7, iblk2, iblk3] at hk
  rw [row_number] at ht
  unfold rowOut
  rw [word_token, word_token, word_token, word_token, iblk0, iblk1, iblk2, iblk3, row_number]
  refine (stored_classes _ _ _ j hp (Cert.Pair.pos_le _ _ _ _) hk (Cert.Pair.chain_le _ _ _ _) ht (Cert.Pair.tok_le _ _ _ _ _ _) _ z).trans ?_
  rw [sheet_eq, sheet_eq, sheet_eq, iblk8, iblk8, iblk8]
  rw [table_pos m c _ (Cert.Pair.pos_le _ _ _ _), table_chain m c _ (Cert.Pair.chain_le _ _ _ _), table_tok m c _ (Cert.Pair.tok_le _ _ _ _ _ _)]
  simp only [Cert.Pair.chain_lt_iff]
  exact regroup _ _ _ _

/-- What the store of row `r` puts at an index is the entry of the index it puts it at. -/
theorem piece_apply (t : Fin cfg0.N) (r : Fin 48) (x : S1x768x128.Idx) :
    (rowPiece (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) (iblk m c 2 t)
      (iblk m c 3 t) (iblk m c 4 t) (iblk m c 5 t) (iblk m c 6 t) (iblk m c 7 t) (iblk m c 8 t) r).snd x
      = (fun x : S48x768x128.Idx => result m c (ix3 (token t ⟨(x 0).val, (x 0).isLt⟩) ⟨(x 1).val, (x 1).isLt⟩ ⟨(x 2).val, (x 2).isLt⟩))
        ((Rect.unit (s := S48x768x128) ![(r : ℕ), 0, 0] S1x768x128.size (row_inb r)).emb x) := by
  idx_vars x
  obtain rfl : x0 = 0 := Subsingleton.elim _ _
  refine (rowOut_apply m c t r x1 x2).trans ?_
  refine congrArg (result m c) ?_
  blk_ext []

/-- The block of grid point `t` holds the entries of its rows. -/
theorem block_apply (t : Fin cfg0.N) (r : Fin 48) (j : Fin 768) (z : Fin 128) :
    outsAt0 m c t (ix3 r j z) = result m c (ix3 (token t r) j z) := by
  unfold outsAt0 out0_A_9
  refine (congrFun (View.read_writes_eq_canon _ _ _ fun y => cover0_A_9 ..) _).trans ?_
  refine (View.canon_apply_of_pieces (fun x : S48x768x128.Idx => result m c (ix3 (token t ⟨(x 0).val, (x 0).isLt⟩) ⟨(x 1).val, (x 1).isLt⟩ ⟨(x 2).val, (x 2).isLt⟩))
    _ (fun p hp x => ?_) _ (cover0_A_9 ..)).trans rfl
  rw [body_pieces] at hp
  obtain ⟨r', rfl⟩ := mem_rowPieces _ _ _ _ _ _ _ _ _ _ _ _ _ _ _ _ _ _ _ _ _ _ _ _ _ _ _ _ _ _ _ hp
  exact piece_apply m c t r' x

/-- After the run the result array holds, at every index, the entry of that index. -/
theorem array_eq : (dats m 0 c).arrAt 9 cfg0.N = result m c := by
  refine (dats m 0 c).arrAt_eq_of_covers 9 (result m c) (by decide +kernel) fun t _ y => ?_
  blk_simp
  rw [after0_9]
  idx_vars y
  rw [block_apply]
  blk_ext [idx t]

end Cert.KernelIdeal.Row
-- ==== Proof.Take.lean ====
/- Taking rows of a table at an array of row numbers, read at an index. -/
module

public import proofs.«01_k».proof.Proof.Classes
public import Idealize.ShloMosaic.Lib.ReduceAll

@[expose] public section

noncomputable section

namespace Cert.Pair

open Idealize.ShloMosaic

/-- The gather of whole rows of an `[N, 128]` table at `[768, 768, 1]` row numbers. -/
abbrev rowsOf (N : ℕ) (wf : GatherDims.WF ⟨2, ![N, 128]⟩ ⟨3, ![768, 768, 1]⟩ ⟨3, ![768, 768, 128]⟩ [2] [0] [] [0] [] 2 ![1, 128]) :
    GatherDims ⟨2, ![N, 128]⟩ ⟨3, ![768, 768, 1]⟩ ⟨3, ![768, 768, 128]⟩ where
  offsetDims := [2]
  collapsedSliceDims := [0]
  operandBatchingDims := []
  startIndicesBatchingDims := []
  startIndexMap := [0]
  indexVectorDim := 2
  sliceSizes := ![1, 128]
  wf := wf

section gather

variable {N : ℕ} (wf : GatherDims.WF ⟨2, ![N, 128]⟩ ⟨3, ![768, 768, 1]⟩ ⟨3, ![768, 768, 128]⟩ [2] [0] [] [0] [] 2 ![1, 128])
  (idx : IVec ⟨3, ![768, 768, 1]⟩ 32) (i j : Fin 768) (z : Fin 128)

/-- The row that the gather starts from is the number at `(i, j)`, brought into the table. -/
theorem start_row : (rowsOf N wf).start (ix3 i j z) idx 0 = min (idx (ix3 i j 0)).toInt.toNat (N - 1) := by
  have at_pair (k) : (rowsOf N wf).siIdx (ix3 i j z) k = ix3 i j 0 := by
    obtain rfl : k = ⟨0, Nat.one_pos⟩ := Fin.ext (Nat.lt_one_iff.mp k.isLt)
    exact funext fun
      | ⟨0, _⟩ => rfl
      | ⟨1, _⟩ => rfl
      | ⟨2, _⟩ => rfl
  simp only [GatherDims.start, List.mem_singleton, dite_true, at_pair]
  rfl

/-- No start is given along a row: the gather takes the row whole. -/
theorem start_column : (rowsOf N wf).start (ix3 i j z) idx 1 = 0 :=
  dif_neg (by decide : (1 : Fin 2) ∉ ([0] : List (Fin 2)))

/-- The offset within a slice is none along the rows. -/
theorem offset_row : (rowsOf N wf).offCoord (ix3 i j z) 0 = 0 :=
  GatherDims.offCoord_eq_zero _ _ _ fun kept => (GatherDims.mem_sKept _ _ |>.1 kept).1 List.mem_cons_self

/-- The offset within a slice is the last coordinate along a row. -/
theorem offset_column : (rowsOf N wf).offCoord (ix3 i j z) 1 = z.val := rfl

/-- Entry `(i, j, z)` of the gather is entry `z` of the row numbered at `(i, j)`, when that number is a row's. -/
theorem gather_rows {α : Type} (x : (⟨2, ![N, 128]⟩ : Shape).Idx → α) (n : Fin N)
    (hn : min (idx (ix3 i j 0)).toInt.toNat (N - 1) = n.val) :
    Host.gather (rowsOf N wf) x idx (ix3 i j z) = x (ix2 n z) := by
  have none (a) : (rowsOf N wf).batchCoord (ix3 i j z) a = 0 := GatherDims.batchCoord_eq_zero _ _ _ List.not_mem_nil
  refine congrArg x (funext fun
    | ⟨0, _⟩ => Fin.ext (Eq.trans (congrArg₂ (· + ·) (congrArg₂ (· + ·) (start_row wf idx i j z) (none 0)) (offset_row wf i j z)) hn)
    | ⟨1, _⟩ => Fin.ext (Eq.trans (congrArg₂ (· + ·) (congrArg₂ (· + ·) (start_column wf idx i j z) (none 1)) (offset_column wf i j z))
        (Nat.zero_add _)))

end gather

/-- A small word, read with its sign, is its number. -/
theorem toInt_small {d : BitVec 32} {n : ℕ} (h : d.toNat ≤ n) (hn : n < 2 ^ 31) : d.toInt = d.toNat := by
  rw [BitVec.toInt_eq_toNat_cond, if_pos (by omega)]

/-- A small word is not negative, so wrapping negative row numbers leaves it. -/
theorem wrap_small {d : BitVec 32} {n : ℕ} (h : d.toNat ≤ n) (hn : n < 2 ^ 31) (x : BitVec 32) :
    Scalar.select (IntOp.cmpi .slt d 0#32) x d = d := by
  have e := toInt_small h hn
  have h0 : ¬(d.toNat : ℤ) < 0 := by omega
  have : IntOp.cmpi .slt d 0#32 = 0#1 := by
    simp only [IntOp.cmpi, BitVec.slt, e, BitVec.toInt_zero, h0, decide_false]; rfl
  rw [this]; rfl

/-- A word of at most `n` passes the test that it lies between 0 and `n`. -/
theorem in_range {d : BitVec 32} {n : ℕ} (h : d.toNat ≤ n) (hn : n < 2 ^ 31) :
    IntOp.andi (IntOp.cmpi .sge d 0#32) (IntOp.cmpi .sle d (BitVec.ofNat 32 n)) = 1#1 := by
  have e := toInt_small h hn
  have e' : (BitVec.ofNat 32 n).toInt = n := by
    rw [toInt_small (n := n) (by rw [BitVec.toNat_ofNat]; exact Nat.mod_le _ _) hn, BitVec.toNat_ofNat, Nat.mod_eq_of_lt (by omega)]
  have h1 : IntOp.cmpi .sge d 0#32 = 1#1 := by simp [IntOp.cmpi, BitVec.sle, e]
  have h2 : IntOp.cmpi .sle d (BitVec.ofNat 32 n) = 1#1 := by simp [IntOp.cmpi, BitVec.sle, e, e', h]
  rw [h1, h2]; rfl

/-- A class number is the row the gather reads. -/
theorem row_small {d : BitVec 32} {n : ℕ} (h : d.toNat ≤ n) (hn : n < 2 ^ 31) : min d.toInt.toNat n = d.toNat := by
  rw [toInt_small h hn]; omega

/-- What is taken at `(i, j, z)` from a table of `n + 1` rows at the row numbers `d`, none of which exceeds `n`: entry `z` of row
    `d (i, j)`. The row numbers read, `idx`, are `d` with negative ones wrapped to `x`; what lies outside the table would be replaced by
    `fill`, and `inside` tells what lies inside it. -/
theorem taken {α : Type} {n : ℕ} (hn : n < 2 ^ 31) (d : IVec ⟨2, ![768, 768]⟩ 32) (hd : ∀ i j, (d (ix2 i j)).toNat ≤ n)
    (x : Fin 768 → Fin 768 → BitVec 32) (idx : IVec ⟨3, ![768, 768, 1]⟩ 32)
    (hidx : ∀ i j, idx (ix3 i j 0) = Scalar.select (IntOp.cmpi .slt (d (ix2 i j)) 0#32) (x i j) (d (ix2 i j)))
    (inside : IVec ⟨3, ![768, 768, 1]⟩ 1)
    (hin : ∀ i j, inside (ix3 i j 0)
      = IntOp.andi (IntOp.cmpi .sge (idx (ix3 i j 0)) 0#32) (IntOp.cmpi .sle (idx (ix3 i j 0)) (BitVec.ofNat 32 n)))
    {axes : List (Fin 3)} {u : Shape} (init : IVec u 1) (hr : (⟨3, ![768, 768, 1]⟩ : Shape).ReducesTo axes ⟨2, ![768, 768]⟩)
    (hu : 0 < u.numel) (hinit : init (Shape.Idx.first hu) = 1#1)
    (wf : GatherDims.WF ⟨2, ![n + 1, 128]⟩ ⟨3, ![768, 768, 1]⟩ ⟨3, ![768, 768, 128]⟩ [2] [0] [] [0] [] 2 ![1, 128])
    (tab : (⟨2, ![n + 1, 128]⟩ : Shape).Idx → α) (fill : α) (i j : Fin 768) (z : Fin 128) :
    Scalar.select (Host.reduce IntOp.andi inside init hr hu (ix2 i j)) (Host.gather (rowsOf (n + 1) wf) tab idx (ix3 i j z)) fill
      = tab (ix2 ⟨(d (ix2 i j)).toNat, Nat.lt_succ_of_le (hd i j)⟩ z) := by
  have row (i j) : idx (ix3 i j 0) = d (ix2 i j) := (hidx i j).trans (wrap_small (hd i j) hn _)
  have all (y) : inside y = 1#1 := by
    idx_vars y
    obtain rfl : y2 = 0 := Subsingleton.elim _ _
    rw [hin, row]; exact in_range (hd y0 y1) hn
  rw [Host.reduce_andi_one inside init hr hu _ hinit all]
  exact gather_rows wf idx i j z tab _ (by rw [row]; exact row_small (hd i j) hn)

end Cert.Pair
-- ==== Proof.RefClasses.lean ====
/- The class numbers that the reference computes, and the tables it takes rows of. -/
module

public import proofs.«01_k».proof.Proof.Take
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x0 x1 x2 x3 x4 : IVec S768 32) (x5 : FVec Ideal S128x139 .f32)

/-- The position classes. -/
theorem pos_class (i j : Fin 768) :
    val_main_v31 (F := Ideal) x0 x1 (ix2 i j) = Cert.Pair.pos (x0 (ix1 i)) (x1 (ix1 i)) (x0 (ix1 j)) (x1 (ix1 j)) := by
  pointwise [val_main_v31, val_main_v12, val_main_v10, val_main_v8, val_main_v11, val_main_v9, val_main_v30, val_main_call0_v4,
    val_main_call0_v3, val_main_c_1, val_main_call0_v2, val_main_call0_v1, val_main_call0_v0, val_main_c_0, val_main_v29,
    val_main_v27, val_main_v25, val_main_v23, val_main_v26, val_main_v24, val_main_v28, val_main_c, val_main_call1_v1,
    val_main_call1_v0, val_main_c_2, Cert.Pair.pos, Cert.Pair.dist]
  rfl

/-- The token classes, over the token numbers given. -/
theorem tok_class (i j : Fin 768) :
    val_main_v41 (F := Ideal) x0 x1 x3 (ix2 i j)
      = Cert.Pair.tok (x0 (ix1 i)) (x1 (ix1 i)) (x3 (ix1 i)) (x0 (ix1 j)) (x1 (ix1 j)) (x3 (ix1 j)) := by
  pointwise [val_main_v41, val_main_v40, val_main_v12, val_main_v10, val_main_v8, val_main_v11, val_main_v9, val_main_v17,
    val_main_v15, val_main_v13, val_main_v16, val_main_v14, val_main_v39, val_main_call2_v4, val_main_call2_v3,
    val_main_c_5, val_main_call2_v2, val_main_call2_v1, val_main_call2_v0, val_main_c_4, val_main_v38, val_main_v36,
    val_main_v34, val_main_v32, val_main_v35, val_main_v33, val_main_v37, val_main_c_3, val_main_call3_v1,
    val_main_call3_v0, val_main_c_6, Cert.Pair.tok, Cert.Pair.dist]
  rfl

/-- The chain classes. -/
theorem chain_class (i j : Fin 768) :
    val_main_v50 (F := Ideal) x2 x4 (ix2 i j) = Cert.Pair.chain (x2 (ix1 i)) (x4 (ix1 i)) (x2 (ix1 j)) (x4 (ix1 j)) := by
  pointwise [val_main_v50, val_main_v22, val_main_v20, val_main_v18, val_main_v21, val_main_v19, val_main_v49, val_main_call4_v4,
    val_main_call4_v3, val_main_c_9, val_main_call4_v2, val_main_call4_v1, val_main_call4_v0, val_main_c_8, val_main_v48,
    val_main_v46, val_main_v44, val_main_v42, val_main_v45, val_main_v43, val_main_v47, val_main_c_7, val_main_call5_v1,
    val_main_call5_v0, val_main_c_10, Cert.Pair.chain, Cert.Pair.dist]
  rfl

/-- Row `n` of the pos table is a column of the weights. -/
theorem pos_table (n : Fin 66) (z : Fin 128) :
    val_main_v1 (F := Ideal) x5 (ix2 n z) = x5 (ix2 z ⟨n.val, by omega⟩) := by
  pointwise [val_main_v1, val_main_v0]

/-- Row `n` of the token table is a column of the weights. -/
theorem token_table (n : Fin 66) (z : Fin 128) :
    val_main_v3 (F := Ideal) x5 (ix2 n z) = x5 (ix2 z ⟨66 + n.val, by omega⟩) := by
  pointwise [val_main_v3, val_main_v2]

/-- Row `n` of the chain table is a column of the weights. -/
theorem chain_table (n : Fin 6) (z : Fin 128) :
    val_main_v7 (F := Ideal) x5 (ix2 n z) = x5 (ix2 z ⟨133 + n.val, by omega⟩) := by
  pointwise [val_main_v7, val_main_v6]

/-- The entity term. -/
theorem entity_term (i j : Fin 768) (z : Fin 128) :
    (val_main_v58 (F := Ideal) x2 x5 (ix3 i j z) : EReal) = if x2 (ix1 i) = x2 (ix1 j) then (x5 (ix2 z 132) : EReal) else 0 := by
  pointwise [val_main_v58, val_main_call9_v1, val_main_v56, val_main_v22, val_main_v20, val_main_v18, val_main_v21, val_main_v19,
    val_main_call9_v2, val_main_v57, val_main_v5, val_main_v4, val_main_call9_v3, val_main_call9_v0, val_main_cst]
  simp only [id]
  pointwise
  by_cases h : x2 (ix1 i) = x2 (ix1 j)
  · simp [IntOp.cmpi, Scalar.select, h]
  · have hb : (x2 (ix1 i) == x2 (ix1 j)) = false := beq_eq_false_iff_ne.mpr h
    simp [IntOp.cmpi, Scalar.select, h, hb]

end Cert.ReferenceIdeal.Read
-- ==== Proof.RefTaken.lean ====
/- The rows that the reference takes from its tables: no class number is out of range. -/
module

public import proofs.«01_k».proof.Proof.RefClasses

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x0 x1 x2 x3 x4 : IVec S768 32) (x5 : FVec Ideal S128x139 .f32)

/-- What the reference takes from the position table at `(i, j, z)`: the weight of the pair's position class. -/
theorem pos_taken (i j : Fin 768) (z : Fin 128) :
    val_main_v51 (F := Ideal) x0 x1 x5 (ix3 i j z)
      = x5 (ix2 z ⟨(Cert.Pair.pos (x0 (ix1 i)) (x1 (ix1 i)) (x0 (ix1 j)) (x1 (ix1 j))).toNat,
          by have := Cert.Pair.pos_le (x0 (ix1 i)) (x1 (ix1 i)) (x0 (ix1 j)) (x1 (ix1 j)); omega⟩) := by
  have pair : idx_main_call6_v14 (ix3 i j z) = ix2 i j := funext fun
    | ⟨0, _⟩ => rfl
    | ⟨1, _⟩ => rfl
  rw [val_main_v51_apply, val_main_call6_v14_apply, pair, val_main_call6_v12, val_main_call6_v13]
  refine (Cert.Pair.taken (n := 65) (by norm_num) (val_main_v31 (F := Ideal) x0 x1)
    (fun i j => by rw [pos_class]; exact Cert.Pair.pos_le _ _ _ _) _ (val_main_call6_v5 (F := Ideal) x0 x1)
    (fun i j => by pointwise [val_main_call6_v5, val_main_call6_v4, val_main_call6_v1, val_main_call6_v0, val_main_call6_c, val_main_call6_v3,
      val_main_call6_v2, val_main_call6_c_0]; rfl)
    (val_main_call6_v11 (F := Ideal) x0 x1)
    (fun i j => by pointwise [val_main_call6_v11, val_main_call6_v7, val_main_call6_v6, val_main_call6_c_2, val_main_call6_v10,
      val_main_call6_v9, val_main_call6_v8, val_main_call6_c_1])
    (val_main_call6_c_3 (F := Ideal)) reducesTo_S768x768x1_S768x768_d2 h_S_ rfl
    gather_S66x128_S768x768x1_S768x768x128_2_0_n_n_0_2_1128_wf (val_main_v1 (F := Ideal) x5) _ i j z).trans ?_
  rw [pos_table]; simp only [pos_class]

/-- What the reference takes from the token table at `(i, j, z)`: the weight of the pair's token class. -/
theorem tok_taken (i j : Fin 768) (z : Fin 128) :
    val_main_v52 (F := Ideal) x0 x1 x3 x5 (ix3 i j z)
      = x5 (ix2 z ⟨66 + (Cert.Pair.tok (x0 (ix1 i)) (x1 (ix1 i)) (x3 (ix1 i)) (x0 (ix1 j)) (x1 (ix1 j)) (x3 (ix1 j))).toNat,
          by have := Cert.Pair.tok_le (x0 (ix1 i)) (x1 (ix1 i)) (x3 (ix1 i)) (x0 (ix1 j)) (x1 (ix1 j)) (x3 (ix1 j)); omega⟩) := by
  have pair : idx_main_call7_v14 (ix3 i j z) = ix2 i j := funext fun
    | ⟨0, _⟩ => rfl
    | ⟨1, _⟩ => rfl
  rw [val_main_v52_apply, val_main_call7_v14_apply, pair, val_main_call7_v12, val_main_call7_v13]
  refine (Cert.Pair.taken (n := 65) (by norm_num) (val_main_v41 (F := Ideal) x0 x1 x3)
    (fun i j => by rw [tok_class]; exact Cert.Pair.tok_le _ _ _ _ _ _) _ (val_main_call7_v5 (F := Ideal) x0 x1 x3)
    (fun i j => by pointwise [val_main_call7_v5, val_main_call7_v4, val_main_call7_v1, val_main_call7_v0, val_main_call7_c, val_main_call7_v3,
      val_main_call7_v2, val_main_call7_c_0]; rfl)
    (val_main_call7_v11 (F := Ideal) x0 x1 x3)
    (fun i j => by pointwise [val_main_call7_v11, val_main_call7_v7, val_main_call7_v6, val_main_call7_c_2, val_main_call7_v10,
      val_main_call7_v9, val_main_call7_v8, val_main_call7_c_1])
    (val_main_call7_c_3 (F := Ideal)) reducesTo_S768x768x1_S768x768_d2 h_S_ rfl
    gather_S66x128_S768x768x1_S768x768x128_2_0_n_n_0_2_1128_wf (val_main_v3 (F := Ideal) x5) _ i j z).trans ?_
  rw [token_table]; simp only [tok_class]

/-- What the reference takes from the chain table at `(i, j, z)`: the weight of the pair's chain class. -/
theorem chain_taken (i j : Fin 768) (z : Fin 128) :
    val_main_v54 (F := Ideal) x2 x4 x5 (ix3 i j z)
      = x5 (ix2 z ⟨133 + (Cert.Pair.chain (x2 (ix1 i)) (x4 (ix1 i)) (x2 (ix1 j)) (x4 (ix1 j))).toNat,
          by have := Cert.Pair.chain_le (x2 (ix1 i)) (x4 (ix1 i)) (x2 (ix1 j)) (x4 (ix1 j)); omega⟩) := by
  have pair : idx_main_call8_v14 (ix3 i j z) = ix2 i j := funext fun
    | ⟨0, _⟩ => rfl
    | ⟨1, _⟩ => rfl
  rw [val_main_v54_apply, val_main_call8_v14_apply, pair, val_main_call8_v12, val_main_call8_v13]
  refine (Cert.Pair.taken (n := 5) (by norm_num) (val_main_v50 (F := Ideal) x2 x4)
    (fun i j => by rw [chain_class]; exact Cert.Pair.chain_le _ _ _ _) _ (val_main_call8_v5 (F := Ideal) x2 x4)
    (fun i j => by pointwise [val_main_call8_v5, val_main_call8_v4, val_main_call8_v1, val_main_call8_v0, val_main_call8_c, val_main_call8_v3,
      val_main_call8_v2, val_main_call8_c_0]; rfl)
    (val_main_call8_v11 (F := Ideal) x2 x4)
    (fun i j => by pointwise [val_main_call8_v11, val_main_call8_v7, val_main_call8_v6, val_main_call8_c_2, val_main_call8_v10,
      val_main_call8_v9, val_main_call8_v8, val_main_call8_c_1])
    (val_main_call8_c_3 (F := Ideal)) reducesTo_S768x768x1_S768x768_d2 h_S_ rfl
    gather_S6x128_S768x768x1_S768x768x128_2_0_n_n_0_2_1128_wf (val_main_v7 (F := Ideal) x5) _ i j z).trans ?_
  rw [chain_table]; simp only [chain_class]

end Cert.ReferenceIdeal.Read
-- ==== Proof.Reference.lean ====
/- The reference's result, entry by entry. -/
module

public import proofs.«01_k».proof.Proof.RefTaken
public import proofs.«01_k».proof.Proof.Entry

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x0 x1 x2 x3 x4 : IVec S768 32) (x5 : FVec Ideal S128x139 .f32)

/-- When the tokens are numbered by their places, the reference computes the entries: its terms are the entry's, in the entry's order but
    for the token and chain terms, which stand the other way round. -/
theorem reference_apply (hx : ∀ i : Fin 768, x3 (ix1 i) = BitVec.ofNat 32 i) (i j : Fin 768) (z : Fin 128) :
    (val_main_v59 (F := Ideal) x0 x1 x2 x3 x4 x5 (ix3 i j z) : EReal) = Cert.Pair.entry x0 x1 x2 x4 x5 i j z := by
  pointwise [val_main_v59, val_main_v55, val_main_v53]
  rw [pos_taken, tok_taken, chain_taken, entity_term]
  simp only [hx]
  rfl

end Cert.ReferenceIdeal.Read
-- ==== Proof.lean ====
/- The proof of the claim: the three programs run and keep their arguments, the idealization changes nothing, and over the extended reals
   the kernel and the reference leave equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem

/-- No side condition is stated by the precondition. -/
theorem pre_facts : Cert.Pre_token_index_counts.Facts := ⟨⟩

/-- The precondition says that every token's number is its place. -/
theorem numbered (m : (ℓ : Loc Cert.KernelIdeal.nD Cert.KernelIdeal.τ Cert.KernelIdeal.sig) → Buf (Elt Ideal) ℓ)
    (h : Cert.Pre_KernelIdeal_token_index_counts (hPre_token_index_counts := pre_facts) m) (c : Dev Cert.KernelIdeal.nD) (i : Fin 768) :
    (m ((c.tc : Thread Cert.KernelIdeal.nD Cert.KernelIdeal.τ).loc Cert.KernelIdeal.main_arg3) : IVec Cert.KernelIdeal.S768 32) (ix1 i)
      = BitVec.ofNat 32 i := by
  have e := congrFun (h c) (ix1 i)
  have e' : IntOp.cmpi .eq ((m ((c.tc : Thread Cert.KernelIdeal.nD Cert.KernelIdeal.τ).loc Cert.KernelIdeal.main_arg3)
      : IVec Cert.KernelIdeal.S768 32) (ix1 i)) (BitVec.ofNat 32 i) = 1#1 := e
  by_contra hne
  have hb := beq_eq_false_iff_ne.mpr hne
  simp [IntOp.cmpi, hb] at e'

/-- On the same arguments, with the tokens numbered by their places, the reference's result is the kernel's. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : ∀ i : Fin 768, (m ((c.tc : Thread Cert.KernelIdeal.nD Cert.KernelIdeal.τ).loc Cert.KernelIdeal.main_arg3)
      : IVec Cert.KernelIdeal.S768 32) (ix1 i) = BitVec.ofNat 32 i)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v59 m' c = Cert.KernelIdeal.Row.result m c := by
  obtain ⟨h0, h1, h2, h3, h4, h5⟩ := hag
  rw [Cert.ReferenceIdeal.Read.val_main_v59_eq, h0, h1, h2, h3, h4, h5]
  funext y
  idx_vars y
  exact Cert.ReferenceIdeal.Read.reference_apply _ _ _ _ _ _ hx y0 y1 y2

/-- Under the precondition, and on the same arguments, the kernel and the reference leave the same result. -/
theorem equal : Cert.algebraic_KernelIdeal_ReferenceIdeal_pre_token_index_counts (hKernelIdeal := Cert.KernelIdeal.Gen.facts)
    (hReferenceIdeal := Cert.ReferenceIdeal.Gen.facts) (hPre_token_index_counts := pre_facts) := by
  intro m g m' g' hpre hag
  refine ⟨fun c => Cert.KernelIdeal.Row.result m c, ?_, ?_⟩
  · exact (θ_run _ _ _).mono (fun _ h c => ⟨(h c).1.trans (Cert.KernelIdeal.Row.array_eq m c), (h c).2⟩)
      (Cert.KernelIdeal.Value.run_blocks m g)
  · exact (θ_run _ _ _).mono (fun _ h c => ⟨(h c).1.trans (reference_eq m m' c (numbered m hpre c) (hag c)), (h c).2⟩)
      (Cert.ReferenceIdeal.Value.run m' g')

/-- The reference runs and keeps its arguments; it declares no semaphore. -/
theorem reference_runs : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run m ρ)

/-- Everything claimed. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    reference_runs,
    fun m ρ _ => reference_runs m ρ trivial,
    trivial, equal⟩

end Cert.Proof

end
